-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x512 .f32) (main_arg1 : FVec F S512x4096 .f32) (main_arg2 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 32 := constantI S_ 32 8192#32
  let main_v11 : IVec S256 32 := broadcastInDim S256 ![] bcast_S_S256 main_c_3
  let main_v12 : IVec S256 1 := cmpi .slt main_arg2 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  main_v15
-- ==== Pre_in_range_ReferenceIdeal.lean ====
abbrev S256x512 : Shape := ⟨2, ![256, 512]⟩
abbrev S512x8192 : Shape := ⟨2, ![512, 8192]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x512 .f32) (main_arg1 : FVec F S512x8192 .f32) (main_arg2 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 32 := constantI S_ 32 8192#32
  let main_v11 : IVec S256 32 := broadcastInDim S256 ![] bcast_S_S256 main_c_3
  let main_v12 : IVec S256 1 := cmpi .slt main_arg2 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  main_v15
-- ==== Kernel.lean ====
abbrev S256x512 : Shape := ⟨2, ![256, 512]⟩
abbrev S512x4096 : Shape := ⟨2, ![512, 4096]⟩
abbrev S256 : Shape := ⟨1, ![256]⟩
abbrev S2x256 : Shape := ⟨2, ![2, 256]⟩
abbrev S_ : Shape := ⟨0, ![]⟩
abbrev S256x4096 : Shape := ⟨2, ![256, 4096]⟩
abbrev S256x1 : Shape := ⟨2, ![256, 1]⟩
abbrev S1x256 : Shape := ⟨2, ![1, 256]⟩

abbrev nBuf : Space → Nat
  | .hbm => 4
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256x512, .f32⟩
  | .local _ .vmem, ⟨1, _⟩ => ⟨S512x4096, .f32⟩
  | .local _ .vmem, ⟨2, _⟩ => ⟨S256, .i32⟩
  | .local _ .vmem, ⟨3, _⟩ => ⟨S256, .f32⟩
  | .local _ .vmem, ⟨4, _⟩ => ⟨S2x256, .f32⟩
  | .local _ .vmem, ⟨5, _⟩ => ⟨S2x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v37 : BitVec 32 := Scalar.muli v6 c2_i32_17
  let v38 : BitVec 32 := Scalar.addi c0_i32_18 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v39 : BitVec 32 := Scalar.muli v5 c1_i32_19
  let v40 : BitVec 32 := Scalar.addi v38 v39
  v40.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256 : Shape := ⟨1, ![256]⟩
abbrev S256x8192 : Shape := ⟨2, ![256, 8192]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256, .i32⟩
  | .hbm, ⟨3, _⟩ => ⟨S256x8192, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x8192, .f32⟩
  | .hbm, ⟨8, _⟩ => ⟨S256x8192, .f32⟩
  | .hbm, ⟨9, _⟩ => ⟨S256x8192, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Protocol.lean ====
/-
# The exchange, as a protocol

Every device swaps one 2×256 message with the device across the first mesh axis (`peer`), an involution. It uses three
semaphores, numbered here: 0, the runtime's barrier; 1, the departure of its own message; 2, the arrival of its peer's.

* Cell 0 of `c` is raised once, by one, by `peer c`; the signal comes before any work, so it hands `c` the peer's inbox
  at whatever it then holds, and the fact that the peer stands at round 0 of its arrival cell.
* Cell 1 of `c` is raised by `c`'s own transfer when it has been read; it hands `c` its outbox back.
* Cell 2 of `c` is raised by the peer's transfer; it hands `c` its own inbox, which now holds the peer's two rows.

Each cell has exactly one round of exactly one duty, so the duties need no names (`Unit`), and one table over the number
of the cell gives the schedule.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Writes
public import Idealize.ShloMosaic.Lib.Tactic

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's ghost state beside the pipeline's. -/
abbrev UX : Type := URounds (GSem nD τ sig) Unit
abbrev UU : Type := UR sig nD τ × UX

local notation "𝕄" => MT nD τ sig Unit (Elt F) ℕ UU ℕ

abbrev EPipe : Emb (UR sig nD τ) (MT nD τ sig Unit (Elt F) ℕ UU ℕ) := embL
abbrev EX : Emb UX (MT nD τ sig Unit (Elt F) ℕ UU ℕ) := embR

/-! ## Who talks to whom -/

set_option backward.proofsInPublic true in
/-- The device on the other side of the first mesh axis: the same column, the other row of the 2×2 mesh. -/
def peer (c : Dev nD) : Dev nD := ⟨(c.val + 2) % 4, Nat.mod_lt _ (by decide)⟩

theorem peer_peer (c : Dev nD) : peer (peer c) = c := by revert c; decide

def swap : Dev nD ≃ Dev nD := ⟨peer, peer, peer_peer, peer_peer⟩

/-- Both device numbers that the kernel computes are the peer's. -/
theorem signalled_eq (c : Dev nD) : (⟨k0_dev1 c, k0_dev1_lt c⟩ : Dev nD) = peer c :=
  Fin.ext ((k0_dev1_eq c).trans (by revert c; decide))
theorem addressed_eq (c : Dev nD) : (⟨k0_dev2 c, k0_dev2_lt c⟩ : Dev nD) = peer c :=
  Fin.ext ((k0_dev2_eq c).trans (by revert c; decide))

/-! ## The buffers and the cells -/

abbrev xRef : Memref sig .tc .vmem S256x512 .f32 := Memref.whole cc0_stg0_0
abbrev wRef : Memref sig .tc .vmem S512x4096 .f32 := Memref.whole cc0_stg1_0
abbrev labRef : Memref sig .tc .vmem S256 .i32 := Memref.whole cc0_stg2_0
abbrev resRef : Memref sig .tc .vmem S256 .f32 := Memref.whole cc0_stg3_0
abbrev outRef : Memref sig .tc .vmem S2x256 .f32 := Memref.whole cc0_scratch0
abbrev inRef : Memref sig .tc .vmem S2x256 .f32 := Memref.whole cc0_scratch1

abbrev barS : Sem sig := (SemArray.scalar (sig.barrier 0 rfl) : Sems sig S_).sem
abbrev outS : DmaSem sig := (cc0_scratch2 : DmaSems sig S_).sem
abbrev inS : DmaSem sig := (cc0_scratch3 : DmaSems sig S_).sem

abbrev xsem : Fin 3 → SemLoc sig := fun | 0 => .reg barS | 1 => .dma outS | 2 => .dma inS
abbrev cell (c : Dev nD) (k : Fin 3) : GSem nD τ sig := ((c : Thread nD τ), xsem k)

theorem xsem_inj : Function.Injective xsem := by decide

/-- Which of the three semaphores this is. -/
def station (s : SemLoc sig) : Option (Fin 3) :=
  if s = xsem 0 then some 0 else if s = xsem 1 then some 1 else if s = xsem 2 then some 2 else none

theorem station_xsem : ∀ k : Fin 3, station (xsem k) = some k := by decide

theorem cell_inj : Function.Injective (fun ck : Dev nD × Fin 3 => cell ck.1 ck.2) := fun a b h =>
  Prod.ext (congrArg (fun g : GSem nD τ sig => g.1.1) h) (xsem_inj (congrArg Prod.snd h))

/-- The credit of one message. -/
abbrev msg : ℕ := inRef.view.dmaCredit
theorem msg_pos : 0 < msg := View.dmaCredit_pos _ (by decide)

/-! ## What the buffers hold -/

abbrev rowA : Rect S2x256 := Rect.unit (s := S2x256) ![0, 0] S1x256.size inb_S2x256_S1x256_0_0
abbrev rowB : Rect S2x256 := Rect.unit (s := S2x256) ![1, 0] S1x256.size inb_S2x256_S1x256_1_0

/-- A message whose first row is `a` and whose second is `b`. -/
def Carries (f : (cc0_scratch1 : Ref sig .tc).ty.Contents (Elt F)) (a b : FVec F S1x256 .f32) : Prop :=
  inRef.view.readAt (Elt F) rowA.toLoadRect f = a ∧ inRef.view.readAt (Elt F) rowB.toLoadRect f = b

def outbox (c : Dev nD) (f : Buf (Elt F) (outRef.view.loc (c : Thread nD τ))) : sProp 𝕄 :=
  outRef.view.loc (c : Thread nD τ) ↦[outRef.view.set]{fullShare} f
def inbox (c : Dev nD) (f : Buf (Elt F) (inRef.view.loc (c : Thread nD τ))) : sProp 𝕄 :=
  inRef.view.loc (c : Thread nD τ) ↦[inRef.view.set]{fullShare} f

omit [FloatOps F] in
instance outbox_storable (c : Dev nD) (f) : BI.Storable (upEmb : UEmb _ 𝕄) (outbox (F := F) c f) := by
  unfold outbox; infer_instance
omit [FloatOps F] in
instance inbox_storable (c : Dev nD) (f) : BI.Storable (upEmb : UEmb _ 𝕄) (inbox (F := F) c f) := by
  unfold inbox; infer_instance

omit [FloatOps F] in
theorem outbox_eq (c : Dev nD) (f : Buf (Elt F) ((c : Thread nD τ).loc cc0_scratch0)) :
    outbox c f = (((c : Thread nD τ).loc cc0_scratch0) ↦{fullShare} f : sProp 𝕄) := by
  unfold outbox; rw [View.set_whole]
omit [FloatOps F] in
theorem inbox_eq (c : Dev nD) (f : Buf (Elt F) ((c : Thread nD τ).loc cc0_scratch1)) :
    inbox c f = (((c : Thread nD τ).loc cc0_scratch1) ↦{fullShare} f : sProp 𝕄) := by
  unfold inbox; rw [View.set_whole]

variable (m : (ℓ : Loc nD τ sig) → Buf (Elt F) ℓ)

/-- A device's operands, as the pipeline stages them. -/
def xOn (c : Dev nD) : (cc0_stg0_0 : Ref sig .tc).ty.Contents (Elt F) :=
  (win0_0.blk (0 : Fin 1)).view.read (Elt F) (m ((c : Thread nD τ).loc main_arg0))
def wOn (c : Dev nD) : (cc0_stg1_0 : Ref sig .tc).ty.Contents (Elt F) :=
  (win0_1.blk (0 : Fin 1)).view.read (Elt F) (m ((c : Thread nD τ).loc main_arg1))
def labOn (c : Dev nD) : (cc0_stg2_0 : Ref sig .tc).ty.Contents (Elt F) :=
  (win0_2.blk (0 : Fin 1)).view.read (Elt F) (m ((c : Thread nD τ).loc main_arg2))

/-- What a device computes of its half of the vocabulary: the sum of exponentials and the label's logit, row by row. -/
def expSum (c : Dev nD) : FVec F S256 .f32 := k0_pay4 (xOn m c) (wOn m c)
def labLogit (c : Dev nD) : FVec F S256 .f32 := k0_pay5 c (xOn m c) (wOn m c) (labOn m c)
/-- The two rows of its message. -/
def firstRow (c : Dev nD) : FVec F S1x256 .f32 := k0_pay6 (xOn m c) (wOn m c)
def secondRow (c : Dev nD) : FVec F S1x256 .f32 := k0_pay1 (labLogit m c)
/-- The loss it stores, from its own two rows and its peer's. -/
def lossOn (c : Dev nD) : (cc0_stg3_0 : Ref sig .tc).ty.Contents (Elt F) :=
  k0_pay2 (expSum m c) (labLogit m c) (firstRow m (peer c)) (secondRow m (peer c))

/-! ## The schedule -/

/-- The units that raise cell `k`. -/
def units : Fin 3 → ℕ := fun | 0 => 1 | _ => msg
theorem units_pos : ∀ k, 0 < units k := fun | 0 => Nat.one_pos | 1 => msg_pos | 2 => msg_pos

/-- What cell `k` of `c` hands `c` when its unit or its message lands. -/
def handed (c : Dev nD) : Fin 3 → sProp 𝕄 := fun
  | 0 => iprop((∃ f, inbox (peer c) f) ∗ reached EX (cell (peer c) 2) 0)
  | 1 => iprop(∃ f, outbox c f)
  | 2 => iprop(∃ f, ⌜Carries f (firstRow m (peer c)) (secondRow m (peer c))⌝ ∗ inbox c f)

instance handed_storable (c : Dev nD) : ∀ k, BI.Storable (upEmb : UEmb _ 𝕄) (handed m c k) := fun
  | 0 => by unfold handed; infer_instance
  | 1 => by unfold handed; infer_instance
  | 2 => by unfold handed; infer_instance

def plan : Rounds.Schedule (GSem nD τ sig) Unit 𝕄 where
  duties g r := if r = 0 ∧ g.1.2 = .tc ∧ (station g.2).isSome then {()} else ∅
  unitless _ := False
  amount g _ _ := (station g.2).elim 1 units
  payload g _ _ := (station g.2).elim iprop(emp) (handed m g.1.1)
  amount_pos g _ _ _ := by
    cases h : station g.2
    · exact Nat.one_pos
    · exact units_pos _

instance plan_storable (g : GSem nD τ sig) (r : ℕ) (d : Unit) :
    BI.Storable (upEmb : UEmb _ 𝕄) ((plan m).payload g r d) := by
  show BI.Storable upEmb ((station g.2).elim iprop(emp) (handed m g.1.1))
  cases station g.2
  · exact (inferInstance : BI.Storable (upEmb : UEmb _ 𝕄) iprop(emp))
  · exact handed_storable m _ _

section Table
variable (c : Dev nD) (k : Fin 3)

theorem duties_cell : (plan m).duties (cell c k) 0 = {()} :=
  if_pos ⟨rfl, rfl, by show (station (xsem k)).isSome = true; rw [station_xsem]; rfl⟩
theorem duty_mem : () ∈ (plan m).duties (cell c k) 0 := by rw [duties_cell]; exact Finset.mem_singleton_self _
theorem duties_over (g : GSem nD τ sig) : ∀ r, 1 ≤ r → (plan m).duties g r = ∅ :=
  fun r hr => if_neg fun h => by omega
theorem amount_cell : (plan m).amount (cell c k) 0 () = units k := by
  show (station (xsem k)).elim 1 units = _; rw [station_xsem]; rfl
theorem payload_cell : (plan m).payload (cell c k) 0 () = handed m c k := by
  show (station (xsem k)).elim iprop(emp) (handed m c) = _; rw [station_xsem]; rfl
theorem expect_cell : (plan m).expect (cell c k) 0 = units k := by
  unfold Schedule.expect Schedule.amountOf; rw [duties_cell, Finset.sum_singleton, amount_cell]
/-- A wait that takes the whole round comes back with what its one duty hands over. -/
theorem taken_cell : bigSep ((plan m).duties (cell c k) 0 \ ∅) (fun d => (plan m).payload (cell c k) 0 d) = handed m c k := by
  rw [Finset.sdiff_empty, duties_cell, bigSep_singleton, payload_cell]

end Table

/-! ## Debts and levels

At launch a device owes its peer a message and a unit of the barrier; the unit is paid first. A wait asks that all which
is still owed lies above it: staging and departure cells at 0, barriers at 1, arrivals at 2. -/

def owedMsg (c : Dev nD) : CellTallies nD τ sig Unit := tallyAt (cell (peer c) 2) () msg
def owedAll (c : Dev nD) : CellTallies nD τ sig Unit := owedMsg c + tallyAt (cell (peer c) 0) () 1

def idx (g : GSem nD τ sig) : Finset Unit := if g.1.2 = .tc then {()} else ∅
/-- The level of cell `k`. -/
def rank : Fin 3 → ℕ := fun | 0 => 1 | 1 => 0 | 2 => 2
def level (g : GSem nD τ sig) (_ : Unit) : ℕ := (station g.2).elim 0 rank

theorem idx_other (g : GSem nD τ sig) (h : g.1.2 ≠ .tc) : idx g = ∅ := if_neg h
theorem idx_tc (c : Dev nD) (s : SemLoc sig) : () ∈ idx ((c : Thread nD τ), s) := by
  unfold idx; rw [if_pos rfl]; exact Finset.mem_singleton_self _
theorem level_cell (c : Dev nD) (k : Fin 3) : level (cell c k) () = rank k := by
  show (station (xsem k)).elim 0 rank = _; rw [station_xsem]; rfl

theorem owedMsg_at {c : Dev nD} {g : GSem nD τ sig} {u : Unit} (h : 0 < owedMsg c g u) : g = cell (peer c) 2 :=
  (Pipeline.tallyAt_pos h).1
theorem owedAll_at {c : Dev nD} {g : GSem nD τ sig} {u : Unit} (h : 0 < owedAll c g u) :
    g = cell (peer c) 2 ∨ g = cell (peer c) 0 :=
  (Pipeline.add_pos_cases h).imp (fun h => (Pipeline.tallyAt_pos h).1) (fun h => (Pipeline.tallyAt_pos h).1)

/-- Staging waits come under everything owed. -/
theorem may_stage (c : Dev nD) (s : SemLoc sig) (hs : station s = none) :
    (levAts idx level : sProp 𝕄) ⊢ MayWait (c : Thread nD τ) s () (owedAll c) :=
  Pipeline.mayWait_of_levAts (idx_tc c s) fun g _ h => by
    have h0 : level ((c : Thread nD τ), s) () = 0 := by unfold level; rw [hs]; rfl
    rcases owedAll_at h with rfl | rfl
    · exact ⟨idx_tc _ _, by rw [h0, level_cell]; decide⟩
    · exact ⟨idx_tc _ _, by rw [h0, level_cell]; decide⟩

/-- At its barrier a device owes its message only. -/
theorem may_bar (c : Dev nD) : (levAts idx level : sProp 𝕄) ⊢ MayWait (c : Thread nD τ) (xsem 0) () (owedMsg c) :=
  Pipeline.mayWait_of_levAts (idx_tc c _) fun g _ h => by
    obtain rfl := owedMsg_at h
    exact ⟨idx_tc _ _, by exact (level_cell c 0).trans_lt ((by decide : rank 0 < rank 2).trans_eq (level_cell _ 2).symm)⟩

end Cert.Swap

end
-- ==== Proof.Body.lean ====
/-
# One device's kernel, effect by effect

The kernel body run once, for any float values, from what the launch deals a device to what it leaves: the barrier
signal that lends the inbox, the loads, the two rows of the message, the barrier wait that borrows the peer's inbox,
the transfer into it, the two waits, and the loss stored from the device's own rows and the two that landed.
-/
module

public import proofs.«01_k».proof.Proof.Protocol

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows of a message -/

omit [FloatOps F] in
/-- The two row stores leave a message that carries their rows, whatever the buffer held. -/
theorem carries_of_stores (f : (cc0_scratch0 : Ref sig .tc).ty.Contents (Elt F)) (a b : FVec F S1x256 .f32) :
    Carries (outRef.view.writes (Elt F) f [⟨rowB, b⟩, ⟨rowA, a⟩]) a b := by
  refine ⟨funext fun x => ?_, funext fun x => ?_⟩
  · refine (View.read_writes_cons_miss_of_axis outRef.view f ⟨rowB, b⟩ [⟨rowA, a⟩] (rowA.emb x) 0 1 1 rfl rfl rfl (Or.inl ?_)).trans
      (View.read_writes_cons_emb outRef.view f rowA a [] x)
    have hx : (x 0).val = 0 := Nat.lt_one_iff.mp (x 0).isLt
    show 0 + 1 * (x 0).val < 1
    rw [hx]; decide
  · exact View.read_writes_cons_emb outRef.view f rowB b [⟨rowA, a⟩] x

omit [FloatOps F] in
/-- A transfer between whole buffers leaves the source's contents. -/
theorem transferred (fd : (cc0_scratch1 : Ref sig .tc).ty.Contents (Elt F)) (fs : (cc0_scratch0 : Ref sig .tc).ty.Contents (Elt F)) :
    inRef.view.write (Elt F) fd (outRef.view.read (Elt F) fs) Finset.univ = fs := by
  show (View.whole cc0_scratch1).write (Elt F) fd ((View.whole cc0_scratch0).read (Elt F) fs) Finset.univ = fs
  rw [View.read_whole]
  exact View.write_whole_univ _ _ _

/-! ## Whole-buffer accesses -/

omit [FloatOps F] in
theorem offs2 : (![0, 0] : Fin 2 → Nat) = fun _ => 0 := funext fun a => by fin_cases a <;> rfl
omit [FloatOps F] in
theorem offs1 : (![0] : Fin 1 → Nat) = fun _ => 0 := funext fun a => by fin_cases a <;> rfl

abbrev allX : Rect S256x512 := Rect.unit (s := S256x512) ![0, 0] S256x512.size inb_S256x512_S256x512_0_0
abbrev allW : Rect S512x4096 := Rect.unit (s := S512x4096) ![0, 0] S512x4096.size inb_S512x4096_S512x4096_0_0
abbrev allV : Rect S256 := Rect.unit (s := S256) ![0] S256.size inb_S256_S256_0

omit [FloatOps F] in
theorem load_x (f : (cc0_stg0_0 : Ref sig .tc).ty.Contents (Elt F)) : xRef.view.readAt (Elt F) allX.toLoadRect f = f :=
  Memref.readAt_unit_zero (Elt F) cc0_stg0_0 offs2 _ f
omit [FloatOps F] in
theorem load_w (f : (cc0_stg1_0 : Ref sig .tc).ty.Contents (Elt F)) : wRef.view.readAt (Elt F) allW.toLoadRect f = f :=
  Memref.readAt_unit_zero (Elt F) cc0_stg1_0 offs2 _ f
omit [FloatOps F] in
theorem load_lab (f : (cc0_stg2_0 : Ref sig .tc).ty.Contents (Elt F)) : labRef.view.readAt (Elt F) allV.toLoadRect f = f :=
  Memref.readAt_unit_zero (Elt F) cc0_stg2_0 offs1 _ f
omit [FloatOps F] in
theorem store_res (f w : (cc0_stg3_0 : Ref sig .tc).ty.Contents (Elt F)) :
    (resRef.access allV : View sig .tc _ _ _).write (Elt F) f w Finset.univ = w :=
  Memref.write_access_unit_zero_univ (Elt F) cc0_stg3_0 offs1 _ f w

/-! ## What the launch deals, and what the pipeline is told -/

/-- The invariants that a device opens: its own three cells', its peer's barrier's and its peer's arrival's. -/
def known (K : Dev nD × Fin 3 → ℕ) (c : Dev nD) : sProp 𝕄 :=
  iprop(cellInv EX (plan m) (K (c, 0)) (cell c 0) ∗ cellInv EX (plan m) (K (c, 1)) (cell c 1) ∗ cellInv EX (plan m) (K (c, 2)) (cell c 2)
    ∗ cellInv EX (plan m) (K (peer c, 0)) (cell (peer c) 0) ∗ cellInv EX (plan m) (K (peer c, 2)) (cell (peer c) 2)
    ∗ reached EX (cell (peer c) 0) 0 ∗ reached EX (cell (peer c) 2) 0 ∗ reached EX (cell c 1) 0 ∗ reached EX (cell c 2) 0)

instance known_persistent (K : Dev nD × Fin 3 → ℕ) (c : Dev nD) : BI.Persistent (known m K c) := by unfold known; infer_instance

/-- The duties that a device pays: its peer's barrier, its own departure, its peer's arrival. -/
def dues (c : Dev nD) : sProp 𝕄 :=
  iprop(dutyTok EX (cell (peer c) 0) 0 () ∗ dutyTok EX (cell c 1) 0 () ∗ dutyTok EX (cell (peer c) 2) 0 ())
/-- It stands at round 0 of its own cells. -/
def stands (c : Dev nD) : sProp 𝕄 :=
  iprop(atPos EX (cell c 0) 0 ∅ 0 ∗ atPos EX (cell c 1) 0 ∅ 0 ∗ atPos EX (cell c 2) 0 ∅ 0)
/-- The credit that others owe it. -/
def credit (c : Dev nD) : sProp 𝕄 :=
  iprop(cred (tallyAt (cell c 0) () 1) ∗ cred (tallyAt (cell c 2) () msg))

def dealt (c : Dev nD) : sProp 𝕄 := iprop(∃ K, known m K c ∗ stands c ∗ dues c)
def entry (c : Dev nD) : sProp 𝕄 := iprop(dealt m c ∗ credit c ∗ levAts idx level)

/-- Before the one grid point: what was dealt and the two message buffers at anything; -/
def atEntry (c : Dev nD) : sProp 𝕄 := iprop(entry m c ∗ (∃ f, outbox c f) ∗ (∃ f, inbox c f))
/-- after it: the buffers at anything, and the three counters at zero. -/
def atExit (c : Dev nD) : sProp 𝕄 :=
  iprop((∃ f, outbox (F := F) c f) ∗ (∃ f, inbox c f) ∗ semVal (cell c 0) 0 ∗ semVal (cell c 1) 0 ∗ semVal (cell c 2) 0)

def pdat (_ : Fin 1) (c : Dev nD) : Dat τ (Elt F) Unit ℕ UU ℕ cfg0 c where
  A w := m ((cfg0.win w).arr.view.loc (c : Thread nD τ))
  after w _ := match w with
    | ⟨0, _⟩ => xOn m c
    | ⟨1, _⟩ => wOn m c
    | ⟨2, _⟩ => labOn m c
    | ⟨3, _⟩ => lossOn m c
  Φ t := match t with
    | ⟨0, _⟩ => atEntry m c
    | ⟨_ + 1, _⟩ => atExit c
  q _ := fullShare
  owed t := match t with
    | ⟨0, _⟩ => owedAll c
    | ⟨_ + 1, _⟩ => 0

abbrev noVar : Variants := Variants.none

/-- A staging buffer at contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- What the pipeline has staged when it calls the body, and what it takes back. -/
def bodyIn (c : Dev nD) : sProp 𝕄 :=
  iprop(atEntry m c ∗ (pdat m 0 c).owesAt () t0_0.castSucc
    ∗ (∃ d, staged c cc0_stg0_0 ((pdat m 0 c).before (0 : Fin 4) t0_0 d))
    ∗ (∃ d, staged c cc0_stg1_0 ((pdat m 0 c).before (1 : Fin 4) t0_0 d))
    ∗ (∃ d, staged c cc0_stg2_0 ((pdat m 0 c).before (2 : Fin 4) t0_0 d))
    ∗ (∃ d, staged c cc0_stg3_0 ((pdat m 0 c).before (3 : Fin 4) t0_0 d)))
def bodyOut (c : Dev nD) : sProp 𝕄 :=
  iprop(atExit c ∗ (pdat m 0 c).owesAt () t0_0.succ ∗ staged c cc0_stg0_0 (xOn m c) ∗ staged c cc0_stg1_0 (wOn m c)
    ∗ staged c cc0_stg2_0 (labOn m c) ∗ staged c cc0_stg3_0 (lossOn m c))

/-! ## The transfer -/

/-- The transfer into the peer's inbox of a message that carries this device's rows. -/
theorem wp_send_msg (K : Dev nD × Fin 3 → ℕ) (c n : Dev nD) (hn : n = peer c)
    {hsc : (inRef : Memref sig (Dev.tc n : Thread nD τ).2.kind .vmem S2x256 .f32).view.ref.isScScratch = false}
    {hsrc : outRef.view.WordExact} {hdst : inRef.view.WordExact}
    {hsem : DmaTarget.Typed .vmem (.dma inS) (.remote (Dev.tc n : Thread nD τ) inRef (.dma outS) hsc)}
    {α : Type} {Q : α → sProp 𝕄} {k : PUnit → Prog (TpuEff nD τ sig (Elt F) Λ₀ .tc) α}
    (fs : Buf (Elt F) (outRef.view.loc (c : Thread nD τ))) (hfs : Carries fs (firstRow m c) (secondRow m c))
    (fd : Buf (Elt F) (inRef.view.loc (peer c : Thread nD τ))) (W : Waits sig Unit) :
    iprop(cellInv EX (plan m) (K (c, 1)) (cell c 1) ∗ cellInv EX (plan m) (K (peer c, 2)) (cell (peer c) 2)
        ∗ outbox c fs ∗ inbox (peer c) fd ∗ owes (c : Thread nD τ) (owedMsg c) W
        ∗ dutyTok EX (cell c 1) 0 () ∗ reached EX (cell c 1) 0
        ∗ dutyTok EX (cell (peer c) 2) 0 () ∗ reached EX (cell (peer c) 2) 0)
      ⊢ iprop(((cred (tallyAt (cell c 1) () msg) ∗ owes (c : Thread nD τ) 0 W) -∗ wp frame (wpE (defs₀ (F := F)) noVar (c : Thread nD τ) none) Set.univ (k ⟨⟩) Q)
          -∗ wp frame (wpE (defs₀ (F := F)) noVar (c : Thread nD τ) none) Set.univ
              (.op (.enqueueDma outRef (.remote (Dev.tc n : Thread nD τ) inRef (.dma outS) hsc) (.dma inS) hsrc hdst hsem) k) Q) := by
  subst hn
  unfold outbox inbox
  refine Rounds.wp_send_pointsTo noVar EX (plan m) (c : Thread nD τ) none (κ₁ := K (c, 1)) (κ₂ := K (peer c, 2))
    (r₁ := 0) (r₂ := 0) (d₁ := ()) (d₂ := ()) (fd := fd) (fs := fs)
    (duty_mem m c 1) (duty_mem m (peer c) 2) () () msg rfl (amount_cell m c 1) (amount_cell m (peer c) 2)
    0 (by unfold owedMsg; rw [zero_add]) (W := W) ?_ ?_
  · rw [show (plan m).payload ((c : Thread nD τ), SemLoc.dma outS) 0 () = handed m c 1 from payload_cell m c 1]
    unfold handed outbox
    iintro H; iexists fs; iexact H
  · rw [show (plan m).payload ((peer c : Thread nD τ), SemLoc.dma inS) 0 () = handed m (peer c) 2 from payload_cell m (peer c) 2, transferred]
    unfold handed inbox
    rw [peer_peer]
    iintro H; iexists fs
    isplitr
    · ipureintro; exact hfs
    · iexact H

/-! ## The body -/

set_option maxHeartbeats 1600000 in
theorem body_runs (c : Dev nD) (Kt : PUnit → sProp 𝕄) :
    iprop(bodyIn m c ∗ (bodyOut m c -∗ Kt ⟨⟩))
      ⊢ wp frame (wpE (defs₀ (F := F)) noVar c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3) Kt := by
  rw [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  unfold bodyIn atEntry entry dealt known stands dues credit
  iintro ⟨⟨⟨⟨⟨%K, ⟨#HI0, #HI1, #HI2, #HP0, #HP2, #HrP0, #HrP2, #Hr1, #Hr2⟩, ⟨Ha0, Ha1, Ha2⟩, Ht0, Ht1, Ht2⟩, ⟨Hc0, Hc2⟩, #Hlev⟩, ⟨%fo, Hob⟩, ⟨%fi, Hib⟩⟩,
    Ho, ⟨%d0, %g0, %hg0, Hx⟩, ⟨%d1, %g1, %hg1, Hw⟩, ⟨%d2, %g2, %hg2, Hl⟩, ⟨%d3, %g3, %hg3, Hres⟩⟩, Hk⟩
  have hx : g0 = xOn m c := by rw [hg0]; unfold Dat.before; rw [if_pos (fetch0_0 t0_0)]; rfl
  have hw : g1 = wOn m c := by rw [hg1]; unfold Dat.before; rw [if_pos (fetch0_1 t0_0)]; rfl
  have hl : g2 = labOn m c := by rw [hg2]; unfold Dat.before; rw [if_pos (fetch0_2 t0_0)]; rfl
  subst hx hw hl
  unfold Dat.owesAt Pipeline.owesWithin
  icases Ho with ⟨%W, %hW, HO⟩
  rw [show (pdat m 0 c).owed t0_0.castSucc = owedAll c from rfl]
  simp only [signalled_eq c]
  -- the signal: the inbox goes to the peer
  iapply (Rounds.wp_signal noVar EX (plan m) (c : Thread nD τ) none (dst := (peer c : Thread nD τ)) (κ := K (peer c, 0)) (r := 0)
      (d := ()) (duty_mem m (peer c) 0) ((amount_cell m (peer c) 0).trans (by decide)) () (owedMsg c) rfl) $$ [HO Ht0 Hib]
  · isplitr; · iexact HP0
    isplitl [HO]; · iexact HO
    isplitl [Ht0]; · iexact Ht0
    isplitl [Hib]
    · rw [show (plan m).payload ((peer c : Thread nD τ), SemLoc.reg barS) 0 () = handed m (peer c) 0 from payload_cell m (peer c) 0]
      unfold handed; rw [peer_peer]
      isplitl [Hib]; · iexists fi; iexact Hib
      iexact Hr2
    · iexact HrP0
  iintro HO
  -- the operands, and the message's two rows
  iapply (wp_load noVar (c : Thread nD τ) none Set.univ (m := xRef) (Finset.subset_univ _)) $$ Hx; iintro Hx
  rw [load_x]
  iapply (wp_load noVar (c : Thread nD τ) none Set.univ (m := wRef) (Finset.subset_univ _)) $$ Hw; iintro Hw
  rw [load_w]
  iapply (wp_load noVar (c : Thread nD τ) none Set.univ (m := labRef) (Finset.subset_univ _)) $$ Hl; iintro Hl
  rw [load_lab]
  unfold outbox
  iapply (wp_load noVar (c : Thread nD τ) none Set.univ (m := outRef) (by rw [View.set_whole]; exact Finset.subset_univ _)) $$ Hob; iintro Hob
  iapply (wp_store_writes₀ noVar (c : Thread nD τ) none Set.univ (m := outRef) (r := rowA) (by rw [View.set_whole]; exact Finset.subset_univ _)) $$ Hob; iintro Hob
  iapply (wp_load noVar (c : Thread nD τ) none Set.univ (m := outRef) (by rw [View.set_whole]; exact Finset.subset_univ _)) $$ Hob; iintro Hob
  iapply (wp_store_writes noVar (c : Thread nD τ) none Set.univ (m := outRef) (r := rowB) (by rw [View.set_whole]; exact Finset.subset_univ _)) $$ Hob; iintro Hob
  -- the barrier wait: the peer's inbox comes
  iapply (Rounds.wp_wait_rest_token noVar EX (plan m) (c : Thread nD τ) none (κ := K (c, 0))
      (wpE_semWait_eq noVar (c : Thread nD τ) none Set.univ) (Set.mem_univ _) () (O := owedMsg c) (W := W) (R := 0) (m := 0) (T := ∅)
      (by rw [show (plan m).expect ((c : Thread nD τ), SemLoc.reg barS) 0 = units 0 from expect_cell m c 0]; decide)) $$ [Hc0 HO Ha0]
  · isplitr; · iexact HI0
    isplitl [Hc0]; · iexact Hc0
    isplitl [HO]; · iexact HO
    isplitr; · iapply (may_bar c); iexact Hlev
    iexact Ha0
  iintro ⟨HO, Ha0, -, Hpay⟩
  ihave Hp := (Entails.of_eq (taken_cell m c 0)) $$ Hpay
  unfold handed
  icases Hp with ⟨⟨%fn, Hpi⟩, -⟩
  -- the transfer
  iapply (wp_send_msg m K c _ (addressed_eq c) _ (carries_of_stores fo (firstRow m c) (secondRow m c)) fn (insert (SemLoc.reg barS, ()) W)) $$ [Hob Hpi HO Ht1 Ht2]
  · isplitr; · iexact HI1
    isplitr; · iexact HP2
    isplitl [Hob]; · (unfold outbox firstRow secondRow labLogit; iexact Hob)
    isplitl [Hpi]; · iexact Hpi
    isplitl [HO]; · iexact HO
    isplitl [Ht1]; · iexact Ht1
    isplitr; · iexact Hr1
    isplitl [Ht2]; · iexact Ht2
    iexact HrP2
  iintro ⟨Hc1, HO⟩
  -- the departure wait: the outbox back
  iapply (Rounds.wp_wait_rest_token noVar EX (plan m) (c : Thread nD τ) none (κ := K (c, 1))
      (wpE_waitDma2_eq noVar (c : Thread nD τ) none Set.univ) (Set.mem_univ _) () (O := 0) (W := insert (SemLoc.reg barS, ()) W) (R := 0) (m := 0) (T := ∅)
      (by rw [Nat.zero_add]; exact (expect_cell m c 1).symm)) $$ [Hc1 HO Ha1]
  · isplitr; · iexact HI1
    isplitl [Hc1]; · iexact Hc1
    isplitl [HO]; · iexact HO
    isplitr; · rw [MayWait_zero]; iempintro
    iexact Ha1
  iintro ⟨HO, Ha1, -, Hpay⟩
  ihave Hob := (Entails.of_eq (taken_cell m c 1)) $$ Hpay
  -- the arrival wait: the inbox with the peer's rows
  iapply (Rounds.wp_wait_rest_token noVar EX (plan m) (c : Thread nD τ) none (κ := K (c, 2))
      (wpE_waitDma2_eq noVar (c : Thread nD τ) none Set.univ) (Set.mem_univ _) () (O := 0)
      (W := insert (SemLoc.dma outS, ()) (insert (SemLoc.reg barS, ()) W)) (R := 0) (m := 0) (T := ∅)
      (by rw [Nat.zero_add]; exact (expect_cell m c 2).symm)) $$ [Hc2 HO Ha2]
  · isplitr; · iexact HI2
    isplitl [Hc2]; · iexact Hc2
    isplitl [HO]; · iexact HO
    isplitr; · rw [MayWait_zero]; iempintro
    iexact Ha2
  iintro ⟨HO, Ha2, -, Hpay⟩
  ihave Hp := (Entails.of_eq (taken_cell m c 2)) $$ Hpay
  unfold handed
  icases Hp with ⟨%fr, %hfr, Hib⟩
  -- every cell is past its last round: the counters are the device's own again, at zero
  imod (Rounds.cell_close EX (plan m) (Set.mem_univ (K (c, 0))) (fun h => h) (R := 0 + 1) (duties_over m (cell c 0))) $$ [Ha0] with Hz0
  · isplitr; · iexact HI0
    iexact Ha0
  imod (Rounds.cell_close EX (plan m) (Set.mem_univ (K (c, 1))) (fun h => h) (R := 0 + 1) (duties_over m (cell c 1))) $$ [Ha1] with Hz1
  · isplitr; · iexact HI1
    iexact Ha1
  imod (Rounds.cell_close EX (plan m) (Set.mem_univ (K (c, 2))) (fun h => h) (R := 0 + 1) (duties_over m (cell c 2))) $$ [Ha2] with Hz2
  · isplitr; · iexact HI2
    iexact Ha2
  -- the two landed rows, and the loss
  unfold inbox
  iapply (wp_load noVar (c : Thread nD τ) none Set.univ (m := inRef) (by rw [View.set_whole]; exact Finset.subset_univ _)) $$ Hib; iintro Hib
  rw [hfr.1]
  iapply (wp_load noVar (c : Thread nD τ) none Set.univ (m := inRef) (by rw [View.set_whole]; exact Finset.subset_univ _)) $$ Hib; iintro Hib
  rw [hfr.2]
  iapply (wp_load noVar (c : Thread nD τ) none Set.univ (m := resRef) (Finset.subset_univ _)) $$ Hres; iintro Hres
  iapply (wp_store noVar (c : Thread nD τ) none Set.univ (m := resRef) (r := allV) (Mk := Finset.univ) (Finset.subset_univ _)) $$ Hres; iintro Hres
  rw [store_res, wp_ret]; imodintro
  iapply Hk
  unfold bodyOut atExit Dat.owesAt Pipeline.owesWithin
  rw [show (pdat m 0 c).owed t0_0.succ = 0 from rfl]
  isplitl [Hob Hib Hz0 Hz1 Hz2]
  · isplitl [Hob]; · iexact Hob
    isplitl [Hib]; · iexists fr; unfold inbox; iexact Hib
    isplitl [Hz0]; · iexact Hz0
    isplitl [Hz1]; · iexact Hz1
    iexact Hz2
  isplitl [HO]
  · iexists (insert (SemLoc.dma inS, ()) (insert (SemLoc.dma outS, ()) (insert (SemLoc.reg barS, ()) W)))
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hl]
  · iexists _; isplitr; · (ipureintro; rfl)
    iexact Hl
  iexists _; isplitr; · (ipureintro; rfl)
  iexact Hres

set_option maxRecDepth 4000 in
/-- The pipeline's obligation on the body. -/
theorem body_ok (c : Dev nD) : BodyObligation (pdat (F := F) m 0 c) (defs₀ (F := F)) noVar () Set.univ := fun t => by
  rw [fin_N0 t]
  rw [bigSep_W0, bigSep_W0]
  simp only [owns_staged]
  show bodyIn m c ⊢ wp frame (wpE (defs₀ (F := F)) noVar c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      cc0_scratch2 cc0_scratch3) (fun _ => bodyOut m c)
  iintro H
  iapply (body_runs m c fun _ => bodyOut m c)
  isplitl [H]; · iexact H
  iintro H; iexact H

end Cert.Swap

end
-- ==== Proof.Run.lean ====
/-
# The four devices' run

The launch of the kernel on the mesh, for any float values: the twelve cells' invariants, positions and tokens dealt to
the devices that open, hold and pay them, the credit each device starts with, and from the library's launch theorem the
run itself — every fair execution ends, the arguments are unchanged, the result array of device `c` is `lossOn c`, and
every counter is at zero. The frames of both programs are this run read at the bits.
-/
module

public import proofs.«01_k».proof.Defs
public import proofs.«01_k».proof.Proof.Body
public import proofs.«01_k».proof.Proof.Gen.Kernel
public import Idealize.ShloMosaic.Lib.Pipeline.CollectiveSegs

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The twelve cells and their tokens -/

abbrev at_ (ck : Dev nD × Fin 3) : GSem nD τ sig := cell ck.1 ck.2

theorem at_inj : Function.Injective at_ := fun a b h => cell_inj h

def allCells : Finset (GSem nD τ sig) := Finset.univ.map ⟨at_, at_inj⟩

/-- One round and one duty per cell, so one token per cell. -/
abbrev tokenAt (ck : Dev nD × Fin 3) : GSem nD τ sig × ℕ × Unit := (at_ ck, 0, ())

theorem tokenAt_inj : Function.Injective tokenAt := fun _ _ h => at_inj (congrArg Prod.fst h)

def allTokens : Finset (GSem nD τ sig × ℕ × Unit) := Finset.univ.map ⟨tokenAt, tokenAt_inj⟩

def seed : UU := (initOf (Pipeline.cells cfgs cellOf_inj) (Pipeline.launchToks cfgs cellOf_inj), initOf allCells allTokens)

omit [FloatOps F] in
theorem over3 (Φ : Fin 3 → sProp 𝕄) : bigSep Finset.univ Φ = iprop(Φ 0 ∗ Φ 1 ∗ Φ 2) :=
  bigSep_univ_eq_bigSepL [0, 1, 2] (by decide) (by decide) Φ

/-- What the seed makes for a device's own cells. -/
def made (c : Dev nD) : sProp 𝕄 :=
  bigSep Finset.univ fun k : Fin 3 => iprop(roundState EX (plan m) (cell c k) 0 ∗ atPos EX (cell c k) 0 ∅ 0 ∗ reached EX (cell c k) 0
    ∗ dutyTok EX (cell c k) 0 ())

theorem make : BI.own (EX (initOf allCells allTokens)) ⊢ (|==> bigSep Finset.univ (made m) : sProp 𝕄) := by
  have hc (Φ : GSem nD τ sig → sProp 𝕄) : bigSep allCells Φ = bigSep Finset.univ fun c : Dev nD => bigSep Finset.univ fun k : Fin 3 => Φ (cell c k) := by
    unfold allCells; rw [bigSep_map, bigSep_univ_prod]; rfl
  have ht : bigSep allTokens (fun x => (dutyTok EX x.1 x.2.1 x.2.2 : sProp 𝕄))
      = bigSep Finset.univ fun c : Dev nD => bigSep Finset.univ fun k : Fin 3 => dutyTok EX (cell c k) 0 () := by
    unfold allTokens; rw [bigSep_map, bigSep_univ_prod]; rfl
  refine (Rounds.fund EX (plan m) allCells allTokens).trans (BI.bupd_mono ?_)
  rw [hc, hc, hc, ht]
  unfold made; simp only [bigSep_sep']
  show (_ : sProp 𝕄) ⊢ _
  iintro ⟨H1, H2, H3, H4⟩
  isplitl [H1]; · iexact H1
  isplitl [H3]; · iexact H3
  isplitl [H2]; · iexact H2
  iexact H4

/-! ## The semaphores of one device -/

/-- The kernel's own two semaphores. -/
abbrev ownSem : Fin 2 → SemLoc sig := fun k => xsem k.succ

theorem ownSem_facts : Pipeline.OwnSemFacts cfg0.spec ownSem := by decide

omit [FloatOps F] in
theorem own_zero (c : Dev nD) : (Pipeline.ownSems0 (Ix := Unit) (Name := ℕ) (U := UU) (Lvl := ℕ) (Val := Elt F) (τ := τ) ownSem c : sProp 𝕄)
    = iprop(semVal (cell c 1) 0 ∗ semVal (cell c 2) 0) := by
  rw [Pipeline.ownSems0_eq_of_list c ownSem [0, 1] (by decide) (by decide)]; rfl
omit [FloatOps F] in
theorem bar_zero (c : Dev nD) : (unscopedSems0 c : sProp 𝕄) = semVal (cell c 0) 0 := by
  unfold unscopedSems0; rw [bigSep_eq_bigSepL_of_eq [SemLoc.reg barS] (by decide) (by decide)]; rfl

/-- What stays with a device's cells once their invariants are allocated. -/
def kept (c : Dev nD) : sProp 𝕄 :=
  bigSep Finset.univ fun k : Fin 3 => iprop(atPos EX (cell c k) 0 ∅ 0 ∗ reached EX (cell c k) 0 ∗ dutyTok EX (cell c k) 0 ())

/-- One device's three invariants, from its counters at zero and its round states. -/
theorem allocate (c : Dev nD) :
    iprop(Pipeline.ownSems0 (Ix := Unit) (Name := ℕ) (U := UU) (Lvl := ℕ) (Val := Elt F) (τ := τ) ownSem c ∗ unscopedSems0 c ∗ made m c)
      ⊢ |={Set.univ}=> iprop((bigSep Finset.univ fun k => iprop(∃ κ : ℕ, cellInv EX (plan m) κ (cell c k))) ∗ kept c) := by
  have hinv (k : Fin 3) : iprop(semVal (cell c k) 0 ∗ roundState EX (plan m) (cell c k) 0)
      ⊢ (|={Set.univ}=> iprop(∃ κ : ℕ, cellInv EX (plan m) κ (cell c k)) : sProp 𝕄) :=
    (Rounds.body_intro EX (plan m) (cell c k)).trans inv_alloc
  rw [own_zero, bar_zero]
  unfold made kept
  rw [over3, over3, over3]
  iintro ⟨⟨Hs1, Hs2⟩, Hs0, ⟨Hr0, Hk0⟩, ⟨Hr1, Hk1⟩, ⟨Hr2, Hk2⟩⟩
  imod (hinv 0) $$ [Hs0 Hr0] with Hi0
  · isplitl [Hs0] <;> iassumption
  imod (hinv 1) $$ [Hs1 Hr1] with Hi1
  · isplitl [Hs1] <;> iassumption
  imod (hinv 2) $$ [Hs2 Hr2] with Hi2
  · isplitl [Hs2] <;> iassumption
  imodintro
  isplitl [Hi0 Hi1 Hi2]
  · isplitl [Hi0]; · iexact Hi0
    isplitl [Hi1] <;> iassumption
  isplitl [Hk0]; · iexact Hk0
  isplitl [Hk1] <;> iassumption

/-! ## Dealing the cells out -/

/-- Every cell's invariant, under one choice of names, and its mark at round 0: what every device may know. -/
def board (K : Dev nD × Fin 3 → ℕ) : sProp 𝕄 :=
  iprop((bigSep Finset.univ fun ck : Dev nD × Fin 3 => cellInv EX (plan m) (K ck) (at_ ck))
    ∗ bigSep Finset.univ fun ck : Dev nD × Fin 3 => reached EX (at_ ck) 0)

instance board_persistent (K : Dev nD × Fin 3 → ℕ) : BI.Persistent (board m K) := by unfold board; infer_instance

theorem board_inv (K : Dev nD × Fin 3 → ℕ) (c : Dev nD) (k : Fin 3) :
    (board m K : sProp 𝕄) ⊢ cellInv EX (plan m) (K (c, k)) (cell c k) := by
  unfold board
  iintro ⟨H, -⟩
  iapply (show (bigSep Finset.univ fun ck : Dev nD × Fin 3 => (cellInv EX (plan m) (K ck) (at_ ck) : sProp 𝕄)) ⊢ cellInv EX (plan m) (K (c, k)) (cell c k) from
    bigSep_elim (Finset.mem_univ (c, k)))
  iexact H
theorem board_mark (K : Dev nD × Fin 3 → ℕ) (c : Dev nD) (k : Fin 3) : (board m K : sProp 𝕄) ⊢ reached EX (cell c k) 0 := by
  unfold board
  iintro ⟨-, H⟩
  iapply (show (bigSep Finset.univ fun ck : Dev nD × Fin 3 => (reached EX (at_ ck) 0 : sProp 𝕄)) ⊢ reached EX (cell c k) 0 from
    bigSep_elim (Finset.mem_univ (c, k)))
  iexact H

theorem known_of_board (K : Dev nD × Fin 3 → ℕ) (c : Dev nD) : (board m K : sProp 𝕄) ⊢ known m K c := by
  unfold known
  iintro #H
  isplitr; · iapply (board_inv m K c 0); iexact H
  isplitr; · iapply (board_inv m K c 1); iexact H
  isplitr; · iapply (board_inv m K c 2); iexact H
  isplitr; · iapply (board_inv m K (peer c) 0); iexact H
  isplitr; · iapply (board_inv m K (peer c) 2); iexact H
  isplitr; · iapply (board_mark m K (peer c) 0); iexact H
  isplitr; · iapply (board_mark m K (peer c) 2); iexact H
  isplitr; · iapply (board_mark m K c 1); iexact H
  iapply (board_mark m K c 2); iexact H

/-- The tokens go to their payers: a barrier's and an arrival's across to the peer, a departure's stays. -/
theorem tokens_across :
    (bigSep Finset.univ fun c : Dev nD => bigSep Finset.univ fun k : Fin 3 => (dutyTok EX (cell c k) 0 () : sProp 𝕄))
      ⊢ bigSep Finset.univ fun c : Dev nD => dues c := by
  have h (k : Fin 3) : (bigSep Finset.univ fun c : Dev nD => (dutyTok EX (cell c k) 0 () : sProp 𝕄))
      ⊢ bigSep Finset.univ fun c : Dev nD => dutyTok EX (cell (peer c) k) 0 () :=
    Entails.of_eq (bigSep_univ_equiv swap (fun c : Dev nD => (dutyTok EX (cell c k) 0 () : sProp 𝕄)))
  rw [bigSep_congr (s := Finset.univ) fun (c : Dev nD) _ => over3 fun k => (dutyTok EX (cell c k) 0 () : sProp 𝕄)]
  unfold dues; simp only [bigSep_sep']
  iintro ⟨H0, H1, H2⟩
  isplitl [H0]; · iapply (h 0); iexact H0
  isplitl [H1]; · iexact H1
  iapply (h 2); iexact H2

/-- What every device's invariants and tokens come to, device by device. -/
theorem deal :
    (bigSep Finset.univ fun c : Dev nD => iprop((bigSep Finset.univ fun k => iprop(∃ κ : ℕ, cellInv EX (plan m) κ (cell c k))) ∗ kept c) : sProp 𝕄)
      ⊢ bigSep Finset.univ (dealt m) := by
  unfold kept
  simp only [bigSep_sep']
  rw [← bigSep_univ_prod (fun ck : Dev nD × Fin 3 => iprop(∃ κ : ℕ, cellInv EX (plan m) κ (at_ ck))),
    ← bigSep_univ_prod (fun ck : Dev nD × Fin 3 => (reached EX (at_ ck) 0 : sProp 𝕄))]
  iintro ⟨Hi, Hp, #Hm, Ht⟩
  ihave HK := (BI.bigSep_exists_pi Finset.univ (fun (ck : Dev nD × Fin 3) (κ : ℕ) => (cellInv EX (plan m) κ (at_ ck) : sProp 𝕄))) $$ Hi
  icases HK with ⟨%K, #Hi⟩
  ihave Hd := (tokens_across (F := F)) $$ Ht
  iapply (show iprop(board m K ∗ bigSep Finset.univ fun c : Dev nD => iprop(stands c ∗ dues c)) ⊢ (bigSep Finset.univ (dealt m) : sProp 𝕄) from
    (sep_mono_left (BI.bigSep_of_persistent Finset.univ (board m K))).trans (by
      rw [← bigSep_sep']
      refine bigSep_mono fun c _ => ?_
      unfold dealt
      show (_ : sProp 𝕄) ⊢ _
      iintro ⟨Hb, Hs, Hd⟩
      iexists K
      isplitl [Hb]; · iapply (known_of_board m K c); iexact Hb
      isplitl [Hs] <;> iassumption))
  isplitr
  · unfold board
    isplitl; · iexact Hi
    iexact Hm
  · rw [bigSep_sep']
    isplitl [Hp]
    · iapply (show (bigSep Finset.univ fun c : Dev nD => bigSep Finset.univ fun k : Fin 3 => (atPos EX (cell c k) 0 ∅ 0 : sProp 𝕄))
          ⊢ bigSep Finset.univ fun c : Dev nD => stands c from bigSep_mono fun c _ => Entails.of_eq (over3 _))
      iexact Hp
    · iexact Hd

theorem deal_all :
    (bigSep Finset.univ fun c => iprop(Pipeline.ownSems0 (Ix := Unit) (Name := ℕ) (U := UU) (Lvl := ℕ) (Val := Elt F) (τ := τ) ownSem c
        ∗ unscopedSems0 c ∗ made m c) : sProp 𝕄)
      ⊢ |={Set.univ}=> bigSep Finset.univ (dealt m) :=
  ((bigSep_mono fun c _ => allocate m c).trans (bigSep_fupd _ _)).trans (BI.fupd_mono (deal m))

/-! ## The credit at the start -/

omit [FloatOps F] in
theorem credit_of_launch (c : Dev nD) : (Pipeline.launchCred owedAll c : sProp 𝕄) ⊢ credit c := by
  unfold credit
  rw [show owedAll = fun d : Dev nD => owedMsg d + tallyAt (cell (peer d) 0) () 1 from rfl, Pipeline.launchCred_add]
  iintro ⟨H2, H0⟩
  isplitl [H0]
  · iapply (Pipeline.launchCred_tallyAt (xsem 0) peer peer peer_peer peer_peer () 1 c); iexact H0
  · iapply (Pipeline.launchCred_tallyAt (xsem 2) peer peer peer_peer peer_peer () msg c); iexact H2

/-! ## The run -/

variable (g : Dev nD → PrngReg)

theorem share_full (c : Dev nD) (w : Fin cfg0.W) : (pdat m 0 c).share w = fullShare := by unfold Dat.share; split <;> rfl

theorem entry_intro (c : Dev nD) :
    iprop(Pipeline.unscopedRestP Pipeline.Prefetch.none cfg0.spec c (fun b => m ((c : Thread nD τ).loc b)) ∗ levAts idx level
        ∗ Pipeline.launchCred owedAll c ∗ prngReg c (g c) ∗ dealt m c)
      ⊢ |={Set.univ}=> iprop(entry m c ∗ emp) := by
  unfold entry
  iintro ⟨-, Hl, Hc, -, Hd⟩
  imodintro
  isplitl
  · isplitl [Hd]; · iexact Hd
    isplitl [Hc]; · iapply (credit_of_launch (F := F) c); iexact Hc
    iexact Hl
  · iempintro

theorem at_entry (c : Dev nD) :
    iprop(entry m c ∗ Pipeline.prefHeld Pipeline.Prefetch.none c (fun _ => fullShare.right) (fun k => k.elim0) ∗ Pipeline.scopedRest cfg0.spec c)
      ⊢ (pdat m 0 c).Φ 0 := by
  rw [show (pdat m 0 c).Φ 0 = atEntry m c from rfl, scopedRest0_eq]
  unfold atEntry
  simp only [outbox_eq, inbox_eq]
  iintro ⟨He, -, Ho, Hi⟩
  isplitl [He]; · iexact He
  isplitl [Ho] <;> iassumption

theorem at_exit (c : Dev nD) :
    (pdat m 0 c).Φ (Fin.last cfg0.N) ⊢ iprop(unscopedSems0 c ∗ Pipeline.ownSems0 ownSem c ∗ Pipeline.scopedRest cfg0.spec c) := by
  rw [show (pdat m 0 c).Φ (Fin.last cfg0.N) = atExit c from rfl, scopedRest0_eq, own_zero, bar_zero]
  unfold atExit
  simp only [outbox_eq, inbox_eq]
  iintro ⟨Ho, Hi, H0, H1, H2⟩
  isplitl [H0]; · iexact H0
  isplitl [H1 H2]
  · isplitl [H1] <;> iassumption
  isplitl [Ho] <;> iassumption

theorem stage_waits (c : Dev nD) : (levAts idx level : sProp 𝕄) ⊢ Pipeline.cellsWaits cfgs (pdat m) () 0 c :=
  Pipeline.cellsWaits_intro cfgs (pdat m) () 0 c fun w s t => by
    rcases t with ⟨_ | _, ht⟩
    · exact may_stage c _ (by fin_cases w <;> fin_cases s <;> decide)
    · rw [show (pdat m 0 c).owed ⟨_ + 1, ht⟩ = 0 from rfl, MayWait_zero]
      iintro -; iempintro

/-- What the arrays hold in the end. -/
def final (c : Dev nD) (w : Fin cfg0.W) : Buf (Elt F) ((cfg0.win w).arr.view.loc (c : Thread nD τ)) := (pdat m 0 c).arrAt w cfg0.N

set_option maxRecDepth 8000 in
/-- Every fair execution from zero counters ends, with every window's array at its final contents and every counter at zero. -/
theorem run_arrays : θ_run defs (onTc (τ := τ) (main (F := F))) ⟨m, fun _ => 0, g⟩
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (pdat m) () cellOf_inj (0 : Fin 1)
    winFacts0.to₀ ownSem_facts (Pipeline.PreFacts.none _) EPipe defs₀ noVar m g main
    (hmain := fun _ => rfl)
    (hbody := body_ok m) (hne := fun w => by fin_cases w <;> exact Nat.succ_pos _) (harr := arr_whole0) (hstage := stage_whole0)
    (hshare := share_full m) (hdistinct := winFacts0.arr_inj)
    (O₀ := owedAll) (howed₀ := fun _ => rfl) (howedN := fun _ => rfl)
    (L := idx) (lv := level) (hL := idx_other) (hwaits := stage_waits m)
    (G := made m) (G' := dealt m) (u₀ := seed)
    (hu₀ := by
      unfold seed
      iintro Hu
      ihave H := (ownU_pair _ _) $$ Hu
      icases H with ⟨HP, HX⟩
      imod (make m) $$ HX with HG
      imodintro
      isplitl [HP] <;> iassumption)
    (hglob := deal_all m)
    (hA := fun _ _ => rfl) (hpf := fun _ k => k.elim0)
    (X := entry m) (Y := fun c => unscopedSems0 c) (Z := fun _ => iprop(emp))
    (hX := entry_intro m g) (hin := at_entry m) (hout := at_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## Reading the arrays -/

/-- A whole-array window's block, read, is the array. -/
theorem xOn_eq (c : Dev nD) : xOn m c = m ((c : Thread nD τ).loc main_arg0) :=
  Memref.read_access_unit_zero (Elt F) main_arg0 (funext fun a => by fin_cases a <;> decide) (fun a => by fin_cases a <;> decide) _
theorem wOn_eq (c : Dev nD) : wOn m c = m ((c : Thread nD τ).loc main_arg1) :=
  Memref.read_access_unit_zero (Elt F) main_arg1 (funext fun a => by fin_cases a <;> decide) (fun a => by fin_cases a <;> decide) _
theorem labOn_eq (c : Dev nD) : labOn m c = m ((c : Thread nD τ).loc main_arg2) :=
  Memref.read_access_unit_zero (Elt F) main_arg2 (funext fun a => by fin_cases a <;> decide) (fun a => by fin_cases a <;> decide) _

theorem final_in (c : Dev nD) (w : Fin cfg0.W) (hw : (cfg0.win w).isOut = false) :
    final m c w = m ((cfg0.win w).arr.view.loc (c : Thread nD τ)) :=
  (pdat m 0 c).arrAt_in w hw _

/-- The result array holds the loss that the body stored. -/
theorem final_out (c : Dev nD) : final m c (3 : Fin 4) = lossOn m c := by
  have h : (win0_3.blk (0 : Fin 1)).view.read (Elt F) (final m c (3 : Fin 4)) = lossOn m c := by
    unfold final
    rw [show cfg0.N = (t0_0 : Fin cfg0.N).val + 1 from rfl, (pdat m 0 c).arrAt_succ (3 : Fin 4) t0_0, if_pos (flush0_3 t0_0)]
    exact View.read_write_univ _ _
  exact (Memref.read_access_unit_zero (Elt F) main_v1 (funext fun a => by fin_cases a <;> decide) (fun a => by fin_cases a <;> decide) _).symm.trans h

/-- The run, read at the program's own buffers. -/
theorem run_main : θ_run defs (onTc (τ := τ) (main (F := F))) ⟨m, fun _ => 0, g⟩ (fun r =>
    (∀ c : Dev nD, r.2.mem ((c.tc : Thread nD τ).loc main_v1) = lossOn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c => ⟨(h.1 c (3 : Fin 4)).trans (final_out m c), (h.1 c (0 : Fin 4)).trans (final_in m c 0 rfl),
    (h.1 c (1 : Fin 4)).trans (final_in m c 1 rfl), (h.1 c (2 : Fin 4)).trans (final_in m c 2 rfl)⟩, h.2⟩) (run_arrays m g)

/-! ## The frames -/

theorem frame_kernelIdeal : Cert.quiescent_KernelIdeal := fun m g _ =>
  (θ_run Cert.KernelIdeal.defs _ _).mono (fun _ h => ⟨fun c => (h.1 c).2, h.2⟩) (run_main m g)

/-- The two programs are one text: their body tables, label by label, and so their definitions. -/
theorem table_same : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun ⟨_, _⟩ => rfl
theorem defs_same : Cert.Kernel.defs (F := Bits) = Cert.KernelIdeal.defs (F := Bits) :=
  congrArg (Pipeline.defs (Cert.KernelIdeal.pcfgs (F := Bits))) table_same

/-- The kernel's frame: the same text, read at the bits. -/
theorem frame_kernel : Cert.quiescent_Kernel := by
  intro m g _
  rw [defs_same]
  exact (θ_run Cert.KernelIdeal.defs _ _).mono (fun _ h => And.intro (fun c => (h.1 c).2) h.2) (run_main (F := Bits) m g)

end Cert.Swap

end
-- ==== Proof.Math.lean ====
module

public import Idealize.ShloMosaic.Lib.Pointwise

/-!
# The numbers of a cross-entropy loss, as finite reals

Everything here is about real numbers and the extended reals that hold them. A row of logits is a function to
the reals. The loss of a row at a label is the logarithm of the sum of exponentials, minus the logit at the label.

* `rowMax_real`: the running maximum of finitely many reals, started below all of them, is a real.
* `shifted_lse`: taking a number out of the exponent and adding it outside the logarithm changes nothing.
* `sum_halves`: a sum over 8192 columns is a sum over the two halves.
* `pick_halves`: the label lies in one half, and the other half adds zero.
-/

@[expose] public section

noncomputable section

namespace Cert.LossMath

open Idealize.ShloMosaic

/-- A finite sum of reals is the same number among the extended reals. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- One logit: a row of the hidden states against a column of the head. -/
def logit {n : ℕ} (X : Fin 256 → Fin 512 → ℝ) (W : Fin 512 → Fin n → ℝ) (r : Fin 256) (k : Fin n) : ℝ :=
  ∑ j, X r j * W j k

/-- The logit as the programs compute it, when the entries are finite. -/
theorem logit_real {n : ℕ} (X : Fin 256 → Fin 512 → ℝ) (W : Fin 512 → Fin n → ℝ) (r : Fin 256) (k : Fin n) :
    (∑ j, (X r j : EReal) * (W j k : EReal)) = (logit X W r k : EReal) := by
  unfold logit
  rw [← sum_real]
  exact Finset.sum_congr rfl fun j _ => (EReal.coe_mul _ _).symm

/-- The largest of finitely many reals, when there is at least one, is a real. -/
theorem rowMax_real {n : ℕ} (hn : 0 < n) (f : Fin n → ℝ) :
    ∃ M : ℝ, Finset.univ.fold max (⊥ : EReal) (fun k => (f k : EReal)) = (M : EReal) := by
  have below : Finset.univ.fold max (⊥ : EReal) (fun k => (f k : EReal)) < ⊤ :=
    (Finset.fold_max_lt _).2 ⟨bot_lt_top, fun k _ => EReal.coe_lt_top _⟩
  have above : ⊥ < Finset.univ.fold max (⊥ : EReal) (fun k => (f k : EReal)) :=
    (Finset.lt_fold_max _).2 (Or.inr ⟨⟨0, hn⟩, Finset.mem_univ _, EReal.bot_lt_coe _⟩)
  exact ⟨_, (EReal.coe_toReal below.ne above.ne').symm⟩

/-- Any number may be taken out of every exponent and put back outside the logarithm. -/
theorem shifted_lse {n : ℕ} (hn : 0 < n) (f : Fin n → ℝ) (M : ℝ) :
    M + Real.log (∑ k, Real.exp (f k - M)) = Real.log (∑ k, Real.exp (f k)) := by
  have positive : 0 < ∑ k, Real.exp (f k - M) :=
    Finset.sum_pos (fun k _ => Real.exp_pos _) ⟨⟨0, hn⟩, Finset.mem_univ _⟩
  have scaled : ∑ k, Real.exp (f k) = Real.exp M * ∑ k, Real.exp (f k - M) := by
    rw [Finset.mul_sum]
    exact Finset.sum_congr rfl fun k _ => by rw [← Real.exp_add]; congr 1; ring
  rw [scaled, Real.log_mul (Real.exp_pos M).ne' positive.ne', Real.log_exp]

/-- The logarithm of a positive real among the extended reals. -/
theorem log_real {r : ℝ} (hr : 0 < r) : Ideal.log (r : EReal) = (Real.log r : EReal) := by
  rw [Ideal.log_coe, if_neg (not_le.2 hr)]

/-- Column `k` of half `b` among all the columns. -/
def col (b : Fin 2) (k : Fin 4096) : Fin 8192 := ⟨4096 * b.val + k.val, by omega⟩

/-- The half of the head's columns that a device in mesh row `b` holds. -/
def halfOf (W : Fin 512 → Fin 8192 → ℝ) (b : Fin 2) : Fin 512 → Fin 4096 → ℝ := fun j k => W j (col b k)

theorem logit_half (X : Fin 256 → Fin 512 → ℝ) (W : Fin 512 → Fin 8192 → ℝ) (b : Fin 2) (r : Fin 256) (k : Fin 4096) :
    logit X (halfOf W b) r k = logit X W r (col b k) := rfl

/-- A sum over all columns is the sum over the two halves, in either order. -/
theorem sum_halves (f : Fin 8192 → ℝ) (b : Fin 2) :
    ∑ k, f (col b k) + ∑ k, f (col (1 - b) k) = ∑ k, f k := by
  have split : ∑ k, f (col 0 k) + ∑ k, f (col 1 k) = ∑ k, f k := by
    refine Eq.trans ?_ (Fin.sum_univ_two_halves 4096 4096 (by norm_num) f).symm
    exact congrArg₂ _ (Finset.sum_congr rfl fun k _ => congrArg f (Fin.ext (Nat.zero_add k.val))) rfl
  match b with
  | 0 => exact split
  | 1 => rw [add_comm]; exact split

/-- The logit at the label, found in the two halves: the half without the label adds zero. -/
theorem pick_halves (f : Fin 8192 → ℝ) (b : Fin 2) (t : Fin 8192) :
    (∑ k, if (col b k).val = t.val then f (col b k) else 0)
      + (∑ k, if (col (1 - b) k).val = t.val then f (col (1 - b) k) else 0) = f t := by
  rw [sum_halves (fun k => if k.val = t.val then f k else 0) b]
  simp [Fin.val_inj]

/-- The loss of row `r` at label `t`. -/
def loss (X : Fin 256 → Fin 512 → ℝ) (W : Fin 512 → Fin 8192 → ℝ) (r : Fin 256) (t : Fin 8192) : ℝ :=
  Real.log (∑ k, Real.exp (logit X W r k)) - logit X W r t

end Cert.LossMath
end
-- ==== Proof.KernelValue.lean ====
module

public import proofs.«01_k».proof.Proof.Run
public import proofs.«01_k».proof.Proof.Math
public import Idealize.ShloMosaic.Lib.Pointwise
public import Idealize.ShloMosaic.Lib.StableHlo.Predicate

/-!
# What a device's result is, over the reals

Each device writes the logarithm of its own sum of exponentials and its partner's, minus its own label logit and its
partner's. When hidden states and head are finite and the labels are columns, that is the loss of the row at its label.
-/

@[expose] public section

noncomputable section

namespace Cert.Swap

open Cert.KernelIdeal Cert.KernelIdeal.Gen
open Idealize.ShloMosaic Idealize.ShloMosaic.TcCoe
open Cert.LossMath

/-- The contents of the three staged inputs, at the extended reals. -/
abbrev XBlock := FVec Ideal ⟨2, ![256, 512]⟩ .f32
abbrev WBlock := FVec Ideal ⟨2, ![512, 4096]⟩ .f32
abbrev LabBlock := IVec ⟨1, ![256]⟩ 32

set_option maxRecDepth 16384 in
theorem expSum_at (x : XBlock) (w : WBlock) (r : Fin 256) :
    (k0_pay4 (F := Ideal) x w (ix1 r) : EReal) = ∑ k, Ideal.exp (∑ j, x (ix2 r j) * w (ix2 j k)) := by
  pointwise [k0_pay4, k0_pay3]

set_option maxRecDepth 16384 in
theorem labLogit_at (c : Dev nD) (x : XBlock) (w : WBlock) (l : LabBlock) (r : Fin 256) :
    (k0_pay5 (F := Ideal) c x w l (ix1 r) : EReal)
      = ∑ k : Fin 4096, Scalar.select (IntOp.cmpi CmpIPredicate.eq (BitVec.ofNat 32 ↑k)
          (IntOp.subi (l (ix1 r)) (Scalar.muli (Scalar.remsi (Scalar.divsi c.word 2#32) 2#32) 4096#32)))
          (∑ j, (x (ix2 r j) * w (ix2 j k) : EReal)) (0 : EReal) := by
  pointwise [k0_pay5, k0_pay3]

set_option maxRecDepth 16384 in
theorem lossOn_at (m : (ℓ : Loc nD τ sig) → Buf (Elt Ideal) ℓ) (c : Dev nD) (r : Fin 256) :
    (lossOn m c (ix1 r) : EReal)
      = Ideal.log ((k0_pay4 (xOn m c) (wOn m c) (ix1 r) : EReal) + k0_pay4 (xOn m (peer c)) (wOn m (peer c)) (ix1 r))
        - ((k0_pay5 c (xOn m c) (wOn m c) (labOn m c) (ix1 r) : EReal)
          + k0_pay5 (peer c) (xOn m (peer c)) (wOn m (peer c)) (labOn m (peer c)) (ix1 r)) := by
  unfold lossOn firstRow secondRow
  pointwise [k0_pay2, k0_pay6, k0_pay1]
  rfl

/-- The mesh row of a device: which half of the head it holds. -/
def half (c : Dev nD) : Fin 2 := ⟨c.val / 2, by have := c.isLt; change c.val < 4 at this; omega⟩

theorem half_peer (c : Dev nD) : half (peer c) = 1 - half c := by
  revert c; decide

/-- The first column of a device's half, as the program computes it. -/
theorem first_column (c : Dev nD) :
    Scalar.muli (Scalar.remsi (Scalar.divsi c.word 2#32) 2#32) 4096#32 = BitVec.ofNat 32 (4096 * (half c).val) := by
  revert c; decide

/-- The program's test for "this column is the label's". -/
theorem hits (b : Fin 2) (k : Fin 4096) (l : BitVec 32) (hl : l.toNat < 8192) :
    IntOp.cmpi CmpIPredicate.eq (BitVec.ofNat 32 ↑k) (IntOp.subi l (BitVec.ofNat 32 (4096 * b.val))) = 1#1
      ↔ (col b k).val = l.toNat := by
  rw [StableHlo.Predicate.cmpi_eq_iff, ← BitVec.toNat_inj]
  have hb := b.isLt
  have hk := k.isLt
  simp only [IntOp.subi, BitVec.toNat_sub, BitVec.toNat_ofNat, col]
  omega

theorem expSum_real (x : XBlock) (w : WBlock) (X : Fin 256 → Fin 512 → ℝ) (W : Fin 512 → Fin 4096 → ℝ)
    (hx : ∀ r j, x (ix2 r j) = (X r j : EReal)) (hw : ∀ j k, w (ix2 j k) = (W j k : EReal)) (r : Fin 256) :
    (k0_pay4 (F := Ideal) x w (ix1 r) : EReal) = ((∑ k, Real.exp (logit X W r k) : ℝ) : EReal) := by
  rw [expSum_at, ← sum_real]
  refine Finset.sum_congr rfl fun k _ => ?_
  simp only [hx, hw]
  rw [logit_real, Ideal.exp_coe]

theorem labLogit_real (c : Dev nD) (x : XBlock) (w : WBlock) (l : LabBlock) (X : Fin 256 → Fin 512 → ℝ)
    (W : Fin 512 → Fin 4096 → ℝ) (hx : ∀ r j, x (ix2 r j) = (X r j : EReal)) (hw : ∀ j k, w (ix2 j k) = (W j k : EReal))
    (r : Fin 256) (hl : (l (ix1 r) : BitVec 32).toNat < 8192) :
    (k0_pay5 (F := Ideal) c x w l (ix1 r) : EReal)
      = ((∑ k, if (col (half c) k).val = (l (ix1 r) : BitVec 32).toNat then logit X W r k else 0 : ℝ) : EReal) := by
  rw [labLogit_at, ← sum_real, first_column]
  refine Finset.sum_congr rfl fun k _ => ?_
  simp only [hx, hw]
  rw [logit_real]
  by_cases h : (col (half c) k).val = (l (ix1 r) : BitVec 32).toNat
  · rw [if_pos h, (hits _ k _ hl).2 h, ValueIdx.select_one]
  · rw [if_neg h, ValueIdx.eq_zero_of_ne_one (fun e => h ((hits _ k _ hl).1 e)), ValueIdx.select_zero, EReal.coe_zero]

/-- The result of every device is the loss over the whole head. -/
theorem lossOn_real (m : (ℓ : Loc nD τ sig) → Buf (Elt Ideal) ℓ) (X : Fin 256 → Fin 512 → ℝ) (W : Fin 512 → Fin 8192 → ℝ)
    (hx : ∀ (c : Dev nD) r j, xOn m c (ix2 r j) = (X r j : EReal))
    (hw : ∀ (c : Dev nD) j k, wOn m c (ix2 j k) = (halfOf W (half c) j k : EReal))
    (t : Fin 256 → Fin 8192) (hl : ∀ (c : Dev nD) r, (labOn m c (ix1 r) : BitVec 32).toNat = (t r).val)
    (c : Dev nD) (r : Fin 256) : (lossOn m c (ix1 r) : EReal) = (loss X W r (t r) : EReal) := by
  have small : ∀ c : Dev nD, (labOn m c (ix1 r) : BitVec 32).toNat < 8192 := fun c => by rw [hl]; exact (t r).isLt
  rw [lossOn_at, expSum_real _ _ X _ (hx c) (hw c), expSum_real _ _ X _ (hx (peer c)) (hw (peer c)),
    labLogit_real c _ _ _ X _ (hx c) (hw c) r (small c),
    labLogit_real (peer c) _ _ _ X _ (hx (peer c)) (hw (peer c)) r (small (peer c)),
    hl c, hl (peer c), half_peer, ← EReal.coe_add, ← EReal.coe_add]
  simp only [logit_half]
  rw [sum_halves (fun k => Real.exp (logit X W r k)), pick_halves (fun k => logit X W r k),
    log_real (Finset.sum_pos (fun k _ => Real.exp_pos _) Finset.univ_nonempty), ← EReal.coe_sub]
  rfl

end Cert.Swap
end
-- ==== Proof.RefRows.lean ====
module

public import proofs.«01_k».proof.Proof.Gen.ReferenceIdeal.Run
public import proofs.«01_k».proof.Proof.Math
public import Idealize.ShloMosaic.Lib.Pointwise
public import Idealize.ShloMosaic.Lib.StableHlo.Predicate

/-!
# The steps of the reference, one row at a time

The reference's result is written with a name for each step: all logits, the largest of a row, the sum of exponentials,
the joined logarithm, the pairs to gather at. Each step is then read at one row.
-/

@[expose] public section

noncomputable section

namespace Cert.RefSide

open Cert.ReferenceIdeal Cert.ReferenceIdeal.Gen
open Idealize.ShloMosaic Idealize.ShloMosaic.TcCoe
open Cert.LossMath StableHlo.Predicate

/-- All the logits. -/
def logits (x : FVec Ideal S256x512 .f32) (w : FVec Ideal S512x8192 .f32) : FVec Ideal S256x8192 .f32 :=
  Host.dotGeneral dot_S256x512_S512x8192_S256x8192_1_0_0_1_n_n none x w

/-- The largest logit of each row. -/
def top (l : FVec Ideal S256x8192 .f32) : FVec Ideal S256 .f32 :=
  Host.reduce FloatOps.maximumf l (constant S_ .f32 0xFF800000#32) reducesTo_S256x8192_S256_d1 h_S_

/-- The sum of the exponentials of each row, after a number per row is taken out. -/
def expSums (l : FVec Ideal S256x8192 .f32) (p : FVec Ideal S256 .f32) : FVec Ideal S256 .f32 :=
  Host.reduceAdd (Host.exp (subf l (broadcastInDim S256x8192 ![0, 1] bcast_S256x1_S256x8192_0_1
    (broadcastInDim S256x1 ![0] bcast_S256_S256x1_0 p)))) (constant S_ .f32 0x00000000#32) reducesTo_S256x8192_S256_d1 h_S_

/-- The number per row plus the logarithm of the sum. -/
def joined (p s : FVec Ideal S256 .f32) : FVec Ideal S256 .f32 :=
  shapeCast _ (addf (broadcastInDim S256x1 ![0] bcast_S256_S256x1_0 p)
    (Host.log (broadcastInDim S256x1 ![0] bcast_S256_S256x1_0 s))) shapeCasts_S256x1_S256

/-- The pairs (row, label) the reference gathers at. -/
def picks (lab : IVec S256 32) : IVec S256x2 32 :=
  concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt lab (broadcastInDim S256 ![] bcast_S_S256 (constantI S_ 32 0#32))) (addi lab (broadcastInDim S256 ![] bcast_S_S256 (constantI S_ 32 8192#32))) lab))⟩] concatenates_S256x1_S256x1_S256x2_d1

/-- The reference's result. -/
def result (x : FVec Ideal S256x512 .f32) (w : FVec Ideal S512x8192 .f32) (lab : IVec S256 32) : FVec Ideal S256 .f32 :=
  subf (joined (top (logits x w)) (expSums (logits x w) (top (logits x w))))
    (Host.gather gather_S256x8192_S256x2_S256_n_01_n_n_01_1_11 (logits x w) (picks lab))

set_option maxRecDepth 16384 in
theorem logits_at (x : FVec Ideal S256x512 .f32) (w : FVec Ideal S512x8192 .f32) (r : Fin 256) (k : Fin 8192) :
    logits x w (ix2 r k) = ∑ j, (x (ix2 r j) * w (ix2 j k) : EReal) := by
  pointwise [logits]

set_option maxRecDepth 16384 in
theorem top_at (l : FVec Ideal S256x8192 .f32) (r : Fin 256) :
    top l (ix1 r) = Finset.univ.fold max (⊥ : EReal) (fun k => l (ix2 r k)) := by
  have start : Ideal.ofBits FTy.f32 4286578688#32 = (⊥ : EReal) := by simp [Ideal.ofBits, Ideal.ieee]
  pointwise [top]
  rw [start]

set_option maxRecDepth 16384 in
theorem expSums_at (l : FVec Ideal S256x8192 .f32) (p : FVec Ideal S256 .f32) (r : Fin 256) :
    expSums l p (ix1 r) = ∑ k, Ideal.exp ((l (ix2 r k) : EReal) - p (ix1 r)) := by
  pointwise [expSums]

set_option maxRecDepth 16384 in
theorem joined_at (p s : FVec Ideal S256 .f32) (r : Fin 256) :
    joined p s (ix1 r) = (p (ix1 r) : EReal) + Ideal.log (s (ix1 r)) := by
  pointwise [joined]

/-- A small word is not negative, so it is taken as it is. -/
theorem kept (a b : BitVec 32) (h : a.toNat < 2 ^ 31) : Scalar.select (IntOp.cmpi .slt a 0#32) b a = a := by
  rw [ValueIdx.eq_zero_of_ne_one fun e => absurd ((slt_iff_toNat h (by decide)).1 e) (Nat.not_lt_zero _), ValueIdx.select_zero]

set_option maxRecDepth 16384 in
theorem picks_row (l : IVec S256 32) (r : Fin 256) : picks l (ix2 r 0) = BitVec.ofNat 32 r := by
  have h : (BitVec.ofNat 32 r.val).toNat < 2 ^ 31 := by rw [BitVec.toNat_ofNat]; omega
  pointwise [picks]
  exact kept _ _ h

set_option maxRecDepth 16384 in
theorem picks_label (l : IVec S256 32) (r : Fin 256) (hl : (l (ix1 r)).toNat < 8192) : picks l (ix2 r 1) = l (ix1 r) := by
  pointwise [picks]
  exact kept _ _ (by omega)

end Cert.RefSide
end
-- ==== Proof.RefValue.lean ====
module

public import proofs.«01_k».proof.Proof.RefRows
public import proofs.«01_k».proof.Proof.Math
public import Idealize.ShloMosaic.Lib.Pointwise
public import Idealize.ShloMosaic.Lib.StableHlo.Predicate

/-!
# What the reference's result is, over the reals

The reference builds all logits, takes the stabilised logarithm of the sum of exponentials of each row, and subtracts
the logit it gathers at the label. When hidden states and head are finite and the labels are columns, that is the loss
of the row at its label.
-/

@[expose] public section

noncomputable section

namespace Cert.RefSide

open Cert.ReferenceIdeal Cert.ReferenceIdeal.Gen
open Idealize.ShloMosaic Idealize.ShloMosaic.TcCoe
open Cert.LossMath StableHlo.Predicate

/-- The gather reads the operand at the pair of start indices of its row, when that pair is in bounds. -/
theorem gathered (y : FVec Ideal S256x8192 .f32) (idx : IVec S256x2 32) (r : Fin 256) (t : Fin 8192)
    (h0 : (idx (ix2 r 0)).toInt.toNat = r.val) (h1 : (idx (ix2 r 1)).toInt.toNat = t.val) :
    Host.gather gather_S256x8192_S256x2_S256_n_01_n_n_01_1_11 y idx (ix1 r) = y (ix2 r t) := by
  show y (gather_S256x8192_S256x2_S256_n_01_n_n_01_1_11.operandIdx (ix1 r) idx) = _
  congr 1
  funext a
  refine Fin.ext ?_
  show gather_S256x8192_S256x2_S256_n_01_n_n_01_1_11.start (ix1 r) idx a
      + gather_S256x8192_S256x2_S256_n_01_n_n_01_1_11.batchCoord (ix1 r) a
      + gather_S256x8192_S256x2_S256_n_01_n_n_01_1_11.offCoord (ix1 r) a = _
  have mapped : a ∈ gather_S256x8192_S256x2_S256_n_01_n_n_01_1_11.startIndexMap := by revert a; decide
  have dropped : a ∈ gather_S256x8192_S256x2_S256_n_01_n_n_01_1_11.collapsedSliceDims := by revert a; decide
  rw [GatherDims.batchCoord_eq_zero _ _ _ List.not_mem_nil,
    GatherDims.offCoord_eq_zero _ _ _ fun kept => ((GatherDims.mem_sKept _ _).1 kept).1 dropped, Nat.add_zero]
  unfold GatherDims.start
  rw [dif_pos mapped]
  match a with
  | 0 =>
    have at0 : gather_S256x8192_S256x2_S256_n_01_n_n_01_1_11.siIdx (ix1 r) ⟨_, List.idxOf_lt_length_iff.2 mapped⟩ = ix2 r 0 := by
      funext b; match b with | 0 => rfl | 1 => rfl
    rw [at0, h0]
    exact Nat.min_eq_left (Nat.le_pred_of_lt r.isLt)
  | 1 =>
    have at1 : gather_S256x8192_S256x2_S256_n_01_n_n_01_1_11.siIdx (ix1 r) ⟨_, List.idxOf_lt_length_iff.2 mapped⟩ = ix2 r 1 := by
      funext b; match b with | 0 => rfl | 1 => rfl
    rw [at1, h1]
    exact Nat.min_eq_left (Nat.le_pred_of_lt t.isLt)

/-- A difference of two vectors, at one place. -/
theorem minus_at (a b : FVec Ideal S256 .f32) (i : S256.Idx) : (subf a b i : EReal) = (a i : EReal) - b i := rfl

/-- The last step of the reference, at one row. -/
theorem result_at (x : FVec Ideal S256x512 .f32) (w : FVec Ideal S512x8192 .f32) (l : IVec S256 32) (r : Fin 256) :
    (result x w l (ix1 r) : EReal)
      = (joined (top (logits x w)) (expSums (logits x w) (top (logits x w))) (ix1 r) : EReal)
        - Host.gather gather_S256x8192_S256x2_S256_n_01_n_n_01_1_11 (logits x w) (picks l) (ix1 r) :=
  minus_at _ _ _

section Finite

variable (x : FVec Ideal S256x512 .f32) (w : FVec Ideal S512x8192 .f32) (l : IVec S256 32)
  (X : Fin 256 → Fin 512 → ℝ) (W : Fin 512 → Fin 8192 → ℝ)

theorem logits_real (hx : ∀ r j, x (ix2 r j) = (X r j : EReal)) (hw : ∀ j k, w (ix2 j k) = (W j k : EReal))
    (r : Fin 256) (k : Fin 8192) : (logits x w (ix2 r k) : EReal) = (logit X W r k : EReal) := by
  rw [logits_at]
  simp only [hx, hw]
  exact logit_real X W r k

/-- The largest of a row of finite logits is finite. -/
theorem top_real (y : FVec Ideal S256x8192 .f32) (r : Fin 256) (f : Fin 8192 → ℝ)
    (hy : ∀ k, (y (ix2 r k) : EReal) = (f k : EReal)) : ∃ M : ℝ, (top y (ix1 r) : EReal) = (M : EReal) := by
  obtain ⟨M, hM⟩ := rowMax_real (Nat.succ_pos _) f
  refine ⟨M, ?_⟩
  rw [top_at, ← hM]
  simp only [hy]

/-- The stabilised logarithm of a row's sum of exponentials is the plain one. -/
theorem joined_real (y : FVec Ideal S256x8192 .f32) (p : FVec Ideal S256 .f32) (r : Fin 256) (f : Fin 8192 → ℝ) (M : ℝ)
    (hy : ∀ k, (y (ix2 r k) : EReal) = (f k : EReal)) (hp : (p (ix1 r) : EReal) = (M : EReal)) :
    (joined p (expSums y p) (ix1 r) : EReal) = (Real.log (∑ k, Real.exp (f k)) : EReal) := by
  have positive : 0 < ∑ k, Real.exp (f k - M) := Finset.sum_pos (fun k _ => Real.exp_pos _) Finset.univ_nonempty
  rw [joined_at, expSums_at, hp]
  simp only [hy, ← EReal.coe_sub, Ideal.exp_coe]
  rw [sum_real, log_real positive, ← EReal.coe_add, shifted_lse (Nat.succ_pos _)]

/-- The logit the reference gathers is the one at the label. -/
theorem taken_real (y : FVec Ideal S256x8192 .f32) (r : Fin 256) (t : Fin 8192) (hl : (l (ix1 r)).toNat = t.val) :
    Host.gather gather_S256x8192_S256x2_S256_n_01_n_n_01_1_11 y (picks l) (ix1 r) = y (ix2 r t) := by
  have small : (l (ix1 r)).toNat < 8192 := by rw [hl]; exact t.isLt
  refine gathered _ _ r t ?_ ?_
  · rw [picks_row, toInt_ofNat_small _ (by omega), Int.toNat_natCast]
  · rw [picks_label _ _ small, toInt_eq_toNat_of_lt (by omega), hl, Int.toNat_natCast]

/-- The reference's result is the loss. -/
theorem result_real (hx : ∀ r j, x (ix2 r j) = (X r j : EReal)) (hw : ∀ j k, w (ix2 j k) = (W j k : EReal))
    (t : Fin 256 → Fin 8192) (hl : ∀ r, (l (ix1 r)).toNat = (t r).val) (r : Fin 256) :
    (result x w l (ix1 r) : EReal) = (loss X W r (t r) : EReal) := by
  obtain ⟨M, hM⟩ := top_real (logits x w) r (logit X W r) (logits_real x w X W hx hw r)
  rw [result_at, joined_real _ _ r (logit X W r) M (logits_real x w X W hx hw r) hM, taken_real l _ r (t r) (hl r),
    logits_real x w X W hx hw, ← EReal.coe_sub]
  rfl

end Finite

end Cert.RefSide
end
-- ==== Proof.Pre.lean ====
module

public import proofs.«01_k».proof.Pre_in_range_KernelIdeal
public import Idealize.ShloMosaic.Lib.ReduceAll
public import Idealize.ShloMosaic.Lib.Pointwise

/-!
# What the precondition says

The precondition is one bit. When the bit is one, every hidden state and every entry of the device's head block is a
real number, and every label is a column of the whole head.
-/

@[expose] public section

noncomputable section

namespace Cert.InRange

open Cert.Pre_in_range_KernelIdeal
open Idealize.ShloMosaic

variable [Cert.Pre_in_range_KernelIdeal.Facts]

instance : Subsingleton S_.Idx := ⟨fun _ _ => funext fun a => a.elim0⟩

/-- An extended real whose absolute value lies below infinity is a real. -/
theorem real_of_bit (e : EReal) (h : FloatOps.cmpf (F := Ideal) (φ := .f32) .olt (FloatOps.hostAbsf (F := Ideal) (φ := .f32) e) (FloatOps.ofBits (F := Ideal) .f32 0x7F800000#32) = 1#1) :
    ∃ v : ℝ, e = (v : EReal) := by
  have infinity : FloatOps.ofBits (F := Ideal) .f32 0x7F800000#32 = (⊤ : EReal) := by
    show Ideal.ofBits .f32 0x7F800000#32 = ⊤
    simp [Ideal.ofBits, Ideal.ieee]
  rw [infinity] at h
  have below : max e (-e) < ⊤ := by
    by_contra no
    have bit : Ideal.cmp .olt (max e (-e)) ⊤ = 1#1 := h
    simp [Ideal.cmp, no] at bit
  induction e using EReal.rec with
  | bot => simp at below
  | coe v => exact ⟨v, rfl⟩
  | top => simp at below

theorem x_real (x : FVec Ideal S256x512 .f32) (w : FVec Ideal S512x4096 .f32) (l : IVec S256 32)
    (h : fn (F := Ideal) x w l = fun _ => 1#1) (i : S256x512.Idx) : ∃ v : ℝ, x i = (v : EReal) := by
  have e := congrFun h (fun a => a.elim0)
  unfold fn at e
  obtain ⟨e, -⟩ := IntOp.andi_eq_one.1 e
  obtain ⟨e, -⟩ := IntOp.andi_eq_one.1 e
  have := Host.reduce_andi_all _ _ _ _ _ e i
  exact real_of_bit _ this

theorem w_real (x : FVec Ideal S256x512 .f32) (w : FVec Ideal S512x4096 .f32) (l : IVec S256 32)
    (h : fn (F := Ideal) x w l = fun _ => 1#1) (i : S512x4096.Idx) : ∃ v : ℝ, w i = (v : EReal) := by
  have e := congrFun h (fun a => a.elim0)
  unfold fn at e
  obtain ⟨e, -⟩ := IntOp.andi_eq_one.1 e
  obtain ⟨-, e⟩ := IntOp.andi_eq_one.1 e
  exact real_of_bit _ (Host.reduce_andi_all _ _ _ _ _ e i)

theorem label_small (x : FVec Ideal S256x512 .f32) (w : FVec Ideal S512x4096 .f32) (l : IVec S256 32)
    (h : fn (F := Ideal) x w l = fun _ => 1#1) (i : S256.Idx) : (l i).toNat < 8192 := by
  have e := congrFun h (fun a => a.elim0)
  unfold fn at e
  obtain ⟨-, e⟩ := IntOp.andi_eq_one.1 e
  obtain ⟨lo, hi⟩ := IntOp.andi_eq_one.1 (Host.reduce_andi_all _ _ _ _ _ e i)
  have lo' : 0 ≤ (l i).toInt := IntOp.cmpi_sge.1 lo
  have hi' : (l i).toInt < 8192 := IntOp.cmpi_slt.1 hi
  rw [BitVec.toInt_eq_toNat_cond] at lo' hi'
  split at lo' <;> omega

end Cert.InRange
end
-- ==== Proof.Agree.lean ====
module

public import proofs.«01_k».proof.Defs
public import proofs.«01_k».proof.Proof.KernelValue
public import proofs.«01_k».proof.Proof.RefValue
public import proofs.«01_k».proof.Proof.Pre
public import proofs.«01_k».proof.Proof.Gen.Pre_in_range_KernelIdeal
public import proofs.«01_k».proof.Proof.Gen.Pre_in_range_ReferenceIdeal
public import Idealize.ShloMosaic.Lib.Quiescent
public import Idealize.ShloMosaic.Lib.Layout

/-!
# The kernel on the mesh and the reference on one device agree

The head is cut along its columns over the mesh rows. Under the precondition the head is finite because each of its
columns lies on some device. Then the value of every device and the value of the reference are the same loss.
-/

@[expose] public section

noncomputable section

namespace Cert.Agree

open Idealize.ShloMosaic Idealize.SL.Sem
open Cert.LossMath Cert.Swap

/-- The block of the head on a device, at one entry: the column counted from the device's first. -/
theorem block_at (W : FVec Ideal ⟨2, ![512, 8192]⟩ .f32) (c : Dev Cert.KernelIdeal.nD) (j : Fin 512) (k : Fin 4096) :
    (Layout.blockN ⟨2, ![512, 4096]⟩ ⟨2, ![512, 8192]⟩ (Layout.meshBlock [2, 2] ![[], [0]] c) W :
        FVec Ideal ⟨2, ![512, 4096]⟩ .f32) (ix2 j k)
      = W (ix2 j (col (half c) k)) := by
  rw [Layout.blockN_apply]
  congr 1
  have row : Layout.meshLin [2, 2] c.val [] = 0 := rfl
  have column : Layout.meshLin [2, 2] c.val [0] = c.val / 2 := by revert c; decide
  funext b
  refine Fin.ext ?_
  rw [Layout.TilesN.idx_val]
  match b with
  | 0 =>
    show Layout.meshLin [2, 2] c.val [] * 512 + j.val = j.val
    rw [row]; omega
  | 1 =>
    show Layout.meshLin [2, 2] c.val [0] * 4096 + k.val = 4096 * (c.val / 2) + k.val
    rw [column, Nat.mul_comm]

/-- A device in a given mesh row. -/
def inRow (b : Fin 2) : Dev Cert.KernelIdeal.nD := ⟨2 * b.val, by have := b.isLt; show 2 * b.val < 4; omega⟩

theorem half_inRow (b : Fin 2) : half (inRow b) = b := by revert b; decide

/-- Every column of the head lies in one of the halves. -/
theorem col_surj (K : Fin 8192) : ∃ (b : Fin 2) (k : Fin 4096), K = col b k :=
  ⟨⟨K.val / 4096, by omega⟩, ⟨K.val % 4096, by omega⟩, Fin.ext (Nat.div_add_mod K.val 4096).symm⟩

/-- The value of a device is the value of the reference. -/
theorem same_value (m : (ℓ : Loc Cert.KernelIdeal.nD Cert.KernelIdeal.τ Cert.KernelIdeal.sig) → Buf (Elt Ideal) ℓ)
    (x : FVec Ideal ⟨2, ![256, 512]⟩ .f32) (w : FVec Ideal ⟨2, ![512, 8192]⟩ .f32) (l : IVec ⟨1, ![256]⟩ 32)
    (good : ∀ c : Dev Cert.KernelIdeal.nD, Cert.Pre_in_range_KernelIdeal.fn (F := Ideal) (xOn m c) (wOn m c) (labOn m c)
      = fun _ => 1#1)
    (ex : ∀ c, xOn m c = x)
    (ew : ∀ c, wOn m c = Layout.blockN ⟨2, ![512, 4096]⟩ ⟨2, ![512, 8192]⟩ (Layout.meshBlock [2, 2] ![[], [0]] c) w)
    (el : ∀ c, labOn m c = l) (c : Dev Cert.KernelIdeal.nD) : lossOn m c = Cert.RefSide.result x w l := by
  have finiteX : ∀ r j, ∃ v : ℝ, (x (ix2 r j) : EReal) = (v : EReal) := fun r j => by
    rw [← ex c]; exact Cert.InRange.x_real _ _ _ (good c) _
  have finiteW : ∀ j K, ∃ v : ℝ, (w (ix2 j K) : EReal) = (v : EReal) := fun j K => by
    obtain ⟨b, k, rfl⟩ := col_surj K
    obtain ⟨v, hv⟩ := Cert.InRange.w_real _ _ _ (good (inRow b)) (ix2 j k)
    rw [ew, block_at, half_inRow] at hv
    exact ⟨v, hv⟩
  have small : ∀ r, (l (ix1 r)).toNat < 8192 := fun r => by
    rw [← el c]; exact Cert.InRange.label_small _ _ _ (good c) _
  choose X hX using finiteX
  choose W hW using finiteW
  funext i
  obtain ⟨r, rfl⟩ : ∃ r, i = ix1 r := ⟨_, eq_ix1 i⟩
  have dev := lossOn_real m X W (fun c r j => by rw [ex c]; exact hX r j)
    (fun c j k => by rw [ew c, block_at]; exact hW j _) (fun r => ⟨_, small r⟩) (fun c r => by rw [el c]) c r
  have ref := Cert.RefSide.result_real x w l X W hX hW (fun r => ⟨_, small r⟩) (fun _ => rfl) r
  exact dev.trans ref.symm

/-- The reference's run leaves its result and its arguments. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v26)
          = Cert.RefSide.result (m (c.tc.loc Cert.ReferenceIdeal.main_arg0)) (m (c.tc.loc Cert.ReferenceIdeal.main_arg1))
              (m (c.tc.loc Cert.ReferenceIdeal.main_arg2))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2) :=
  Cert.ReferenceIdeal.Value.run (F := Ideal) m g

theorem frame_reference : Cert.quiescent_ReferenceIdeal := fun m g _ =>
  (θ_run _ _ _).mono (fun r h => ⟨fun c => (h c).2, sem_eq_zero_of_no_sems (by decide) r.2⟩) (run_reference m g)

/-- The value claim. -/
theorem agree : Cert.algebraic_KernelIdeal_ReferenceIdeal_pre_in_range_KernelIdeal := by
  intro m g m' g' good args
  refine ⟨Cert.RefSide.result (m' ((0 : Dev Cert.ReferenceIdeal.nD).tc.loc Cert.ReferenceIdeal.main_arg0))
    (m' ((0 : Dev Cert.ReferenceIdeal.nD).tc.loc Cert.ReferenceIdeal.main_arg1))
    (m' ((0 : Dev Cert.ReferenceIdeal.nD).tc.loc Cert.ReferenceIdeal.main_arg2)), ?_, ?_⟩
  · refine (θ_run _ _ _).mono (fun r h c => ⟨((h.1 c).1).trans ?_, (h.1 c).2⟩) (run_main m g)
    refine same_value m _ _ _ (fun c => ?_) (fun c => ?_) (fun c => ?_) (fun c => ?_) c
    · rw [xOn_eq, wOn_eq, labOn_eq]; exact good c
    · rw [xOn_eq]; exact (args c).1
    · rw [wOn_eq]; exact (args c).2.1
    · rw [labOn_eq]; exact (args c).2.2
  · exact (θ_run _ _ _).mono (fun r h => h 0) (run_reference m' g')

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range_KernelIdeal
public import proofs.«01_k».proof.Proof.Gen.Pre_in_range_ReferenceIdeal
public import Idealize.ShloMosaic.Adequacy
public import Idealize.ShloMosaic.Init
public import proofs.«01_k».proof.Proof.Gen.ReferenceIdeal.Run
public import proofs.«01_k».proof.Proof.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range_KernelIdeal.Gen.facts, Cert.Pre_in_range_ReferenceIdeal.Gen.facts,
  Cert.Swap.frame_kernel, Cert.Swap.frame_kernelIdeal, fun m g _ => Cert.Swap.frame_kernelIdeal m g trivial,
  Cert.Agree.frame_reference, fun m g _ => Cert.Agree.frame_reference m g trivial, trivial, Cert.Agree.agree⟩

end Cert.Proof

end
